-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S100000x128 : Shape := ⟨2, ![100000, 128]⟩
abbrev S100000 : Shape := ⟨1, ![100000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel
  bcast_S_S64 : S_.BroadcastsInDim S64 (![] : Fin 0 → Fin S64.rank)
  reducesTo_S64_S_d0 : S64.ReducesTo [0] S_
  bcast_S_S1 : S_.BroadcastsInDim S1 (![] : Fin 0 → Fin S1.rank)
  reducesTo_S1_S_d0 : S1.ReducesTo [0] S_

variable [Facts]

def fn {F : FTy → Type} [FloatOps F] (main_arg0 : FVec F S100000x128 .f32) (main_arg1 : IVec S100000 32) (main_arg2 : FVec F S128x64 .f32) (main_arg3 : FVec F S64 .f32) (main_arg4 : FVec F S64x1 .f32) (main_arg5 : FVec F S1 .f32) : IVec S_ 1 :=
  let main_c : IVec S_ 32 := constantI S_ 32 4294934528#32
  let main_v0 : IVec S100000 32 := broadcastInDim S100000 ![] bcast_S_S100000 main_c
  let main_v1 : IVec S100000 1 := cmpi .sge main_arg1 main_v0
  let main_c_0 : IVec S_ 32 := constantI S_ 32 32768#32
  let main_v2 : IVec S100000 32 := broadcastInDim S100000 ![] bcast_S_S100000 main_c_0
  let main_v3 : IVec S100000 1 := cmpi .slt main_arg1 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  let main_cst : FVec F S_ .f32 := constant S_ .f32 0x00000000#32
  let main_v6 : FVec F S64 .f32 := broadcastInDim S64 ![] bcast_S_S64 main_cst
  let main_v7 : IVec S64 1 := cmpf .oeq main_arg3 main_v6
  let main_c_2 : IVec S_ 1 := constantI S_ 1 1#1
  let main_v8 : IVec S_ 1 := (fun x v => Host.reduce IntOp.andi x v reducesTo_S64_S_d0 h_S_) main_v7 main_c_2
  let main_v9 : IVec S_ 1 := andi main_v5 main_v8
  let main_cst_3 : FVec F S_ .f32 := constant S_ .f32 0x00000000#32
  let main_v10 : FVec F S1 .f32 := broadcastInDim S1 ![] bcast_S_S1 main_cst_3
  let main_v11 : IVec S1 1 := cmpf .oeq main_arg5 main_v10
  let main_c_4 : IVec S_ 1 := constantI S_ 1 1#1
  let main_v12 : IVec S_ 1 := (fun x v => Host.reduce IntOp.andi x v reducesTo_S1_S_d0 h_S_) main_v11 main_c_4
  let main_v13 : IVec S_ 1 := andi main_v9 main_v12
  main_v13
-- ==== Kernel.lean ====
abbrev S100000x128 : Shape := ⟨2, ![100000, 128]⟩
abbrev S100000 : Shape := ⟨1, ![100000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S10x1x10000 : Shape := ⟨3, ![10, 1, 10000]⟩
abbrev S256x128 : Shape := ⟨2, ![256, 128]⟩
abbrev S10000x128 : Shape := ⟨2, ![10000, 128]⟩
abbrev S1x1x10000 : Shape := ⟨3, ![1, 1, 10000]⟩
abbrev S64x10000 : Shape := ⟨2, ![64, 10000]⟩
abbrev S1x10000 : Shape := ⟨2, ![1, 10000]⟩
abbrev S256x10000 : Shape := ⟨2, ![256, 10000]⟩

abbrev nBuf : Space → Nat
  | .hbm => 9
  | .vmem => 7
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S10x1x10000, .i32⟩
  | .hbm, ⟨7, _⟩ => ⟨S128x64, .bf16⟩
  | .hbm, ⟨8, _⟩ => ⟨S256x128, .f32⟩
  | .local _ .vmem, ⟨0, _⟩ => ⟨S10000x128, .f32⟩
  | .local _ .vmem, ⟨1, _⟩ => ⟨S10000x128, .f32⟩
  | .local _ .vmem, ⟨2, _⟩ => ⟨S1x1x10000, .i32⟩
  | .local _ .vmem, ⟨3, _⟩ => ⟨S1x1x10000, .i32⟩
  | .local _ .vmem, ⟨4, _⟩ => ⟨S128x64, .bf16⟩
  | .local _ .vmem, ⟨5, _⟩ => ⟨S64x1, .f32⟩
  | .local _ .vmem, ⟨6, _⟩ => ⟨S256x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x10000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S100000x128 : Shape := ⟨2, ![100000, 128]⟩
abbrev S100000 : Shape := ⟨1, ![100000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000x64 : Shape := ⟨2, ![100000, 64]⟩
abbrev S1x64 : Shape := ⟨2, ![1, 64]⟩
abbrev S100000x1 : Shape := ⟨2, ![100000, 1]⟩
abbrev S1x1 : Shape := ⟨2, ![1, 1]⟩
abbrev S_ : Shape := ⟨0, ![]⟩
abbrev S256x128 : Shape := ⟨2, ![256, 128]⟩

abbrev nBuf : Space → Nat
  | .hbm => 21
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S100000x64, .f32⟩
  | .hbm, ⟨7, _⟩ => ⟨S1x64, .f32⟩
  | .hbm, ⟨8, _⟩ => ⟨S100000x64, .f32⟩
  | .hbm, ⟨9, _⟩ => ⟨S100000x64, .f32⟩
  | .hbm, ⟨10, _⟩ => ⟨S100000x64, .f32⟩
  | .hbm, ⟨11, _⟩ => ⟨S100000x1, .f32⟩
  | .hbm, ⟨12, _⟩ => ⟨S1x1, .f32⟩
  | .hbm, ⟨13, _⟩ => ⟨S100000x1, .f32⟩
  | .hbm, ⟨14, _⟩ => ⟨S100000x1, .f32⟩
  | .hbm, ⟨15, _⟩ => ⟨S100000x128, .f32⟩
  | .hbm, ⟨16, _⟩ => ⟨S100000x128, .f32⟩
  | .hbm, ⟨17, _⟩ => ⟨S_, .f32⟩
  | .hbm, ⟨18, _⟩ => ⟨S256x128, .f32⟩
  | .hbm, ⟨19, _⟩ => ⟨S100000x1, .i32⟩
  | .hbm, ⟨20, _⟩ => ⟨S256x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== Proof.Pooling.lean ====
/- The function both programs compute, written once in mathematical terms: attention-weighted pooling of
   100000 node rows into 256 graphs. Hand-written, untrusted. -/
module

public import Idealize.ShloMosaic.Lib.Pointwise

@[expose] public section

noncomputable section

namespace Cert.Proof

open Idealize.ShloMosaic

/-- The attention weight of node `r`: its 128 features through a hidden layer of 64 hyperbolic tangents, weighted and
    summed. Neither layer has a bias. -/
def attention (x : FVec Ideal ⟨2, ![100000, 128]⟩ .f32) (w1 : FVec Ideal ⟨2, ![128, 64]⟩ .f32)
    (w2 : FVec Ideal ⟨2, ![64, 1]⟩ .f32) (r : Fin 100000) : EReal :=
  ∑ k : Fin 64, w2 (ix2 k 0) * Ideal.tanh (∑ f : Fin 128, w1 (ix2 f k) * x (ix2 r f))

/-- What node `r` adds to feature `d` of graph `g`: its weighted feature when its graph id, read signed, is `g`, and
    nothing otherwise. -/
def contribution (x : FVec Ideal ⟨2, ![100000, 128]⟩ .f32) (ids : IVec ⟨1, ![100000]⟩ 32)
    (w1 : FVec Ideal ⟨2, ![128, 64]⟩ .f32) (w2 : FVec Ideal ⟨2, ![64, 1]⟩ .f32) (g : Fin 256) (d : Fin 128)
    (r : Fin 100000) : EReal :=
  if (ids (ix1 r)).toInt = (g.val : Int) then attention x w1 w2 r * x (ix2 r d) else 0

/-- The pooled array: feature `d` of graph `g` is the sum of every node's contribution. -/
def pooled (x : FVec Ideal ⟨2, ![100000, 128]⟩ .f32) (ids : IVec ⟨1, ![100000]⟩ 32)
    (w1 : FVec Ideal ⟨2, ![128, 64]⟩ .f32) (w2 : FVec Ideal ⟨2, ![64, 1]⟩ .f32) : FVec Ideal ⟨2, ![256, 128]⟩ .f32 :=
  fun i => ∑ r : Fin 100000, contribution x ids w1 w2 (i 0) (i 1) r

end Cert.Proof

end
-- ==== Proof.KernelArray.lean ====
/- The kernel's side: its output array is the pooled array whenever the graph ids are 16-bit. Hand-written, untrusted.

   One grid point multiplies a 256 × 10000 array (row `g` holds the attention weight of the block's nodes of graph `g`, zero
   elsewhere) by the block's 10000 × 128 features and adds the product to the one output block, which the first point
   clears. The ten blocks of 10000 nodes are the 100000 nodes. -/
module

public import proofs.«01_k».proof.Proof.Pooling
public import proofs.«01_k».proof.Proof.Gen.KernelIdeal.Value
public import Idealize.ShloMosaic.Lib.Pipeline.ValueKit
public import Idealize.ShloMosaic.Lib.WordCmp

@[expose] public section

noncomputable section

namespace Cert.Proof

open Idealize.ShloMosaic Idealize.ShloMosaic.TcCoe Idealize.SL.Sem
open Cert.KernelIdeal Cert.KernelIdeal.Gen

/-- A 32-bit id that fits in 16 signed bits equals a graph number below 256 after truncation to 16 bits exactly when it
    equals it before. -/
theorem trunc16_eq_iff (b : BitVec 32) (h : -32768 ≤ b.toInt ∧ b.toInt < 32768) (g : Fin 256) :
    BitVec.ofNat 16 g.val = BitVec.setWidth 16 b ↔ b.toInt = (g.val : Int) := by
  have hg := g.isLt
  have hb := b.isLt
  rw [← BitVec.toNat_inj, BitVec.toNat_ofNat, BitVec.toNat_setWidth]
  rw [BitVec.toInt_eq_toNat_cond] at h ⊢
  split at h <;> split <;> omega

/-- The kernel's mask: a value selected where the truncated id is `g`, zero elsewhere, is the value where the id is
    `g`. -/
theorem masked_eq (b : BitVec 32) (h : -32768 ≤ b.toInt ∧ b.toInt < 32768) (g : Fin 256) (a : EReal) :
    Scalar.select (IntOp.cmpi .eq (BitVec.ofNat 16 g.val) (BitVec.setWidth 16 b)) a 0
      = if b.toInt = (g.val : Int) then a else 0 := by
  rw [WordCmp.cmpi_eq_eq]
  by_cases e : BitVec.ofNat 16 g.val = BitVec.setWidth 16 b
  · rw [if_pos ((trunc16_eq_iff b h g).1 e), decide_eq_true e]; rfl
  · rw [if_neg (fun e' => e ((trunc16_eq_iff b h g).2 e')), decide_eq_false e]; rfl

/-- What one grid point stores, element by element: the accumulator plus the block's masked, weighted features. -/
theorem block_apply (x : Vec Ideal S10000x128 .f32) (w1 : Vec Ideal S128x64 .bf16) (w2 : Vec Ideal S64x1 .f32)
    (ids : Vec Ideal S1x1x10000 .i32) (acc : Vec Ideal S256x128 .f32) (g : Fin 256) (d : Fin 128) :
    k0_pay2 (F := Ideal) x w1 w2 ids acc (ix2 g d)
      = acc (ix2 g d) + ∑ p : Fin 10000,
          Scalar.select (IntOp.cmpi .eq (BitVec.ofNat 16 g.val) (BitVec.setWidth 16 (ids (ix3 0 0 p))))
            ((∑ k : Fin 64, w2 (ix2 k 0) * Ideal.tanh (∑ f : Fin 128, w1 (ix2 f k) * x (ix2 p f))) * x (ix2 p d)) 0 := by
  pointwise [k0_pay2]

/-- The cleared output block is zero everywhere. -/
theorem cleared_apply (i : S256x128.Idx) : k0_pay1 (F := Ideal) i = 0 := by
  pointwise [k0_pay1]

variable (m : (ℓ : Loc nD τ sig) → Buf (Elt Ideal) ℓ)

/-- The block each input window reads at grid point `t`: block `t` of the features and of the ids, the whole of both
    weight matrices. -/
theorem block_index : ∀ t : Fin cfg0.N, win0_0.index t = ![t.val, 0] ∧ win0_1.index t = ![t.val, 0, 0]
    ∧ win0_2.index t = ![0, 0] ∧ win0_3.index t = ![0, 0] :=
  (by decide +kernel : ∀ t : Fin grid0.N, _)

/-- Row `p` of the features' block `t` is row `10000 t + p` of the features. -/
theorem features_block (c : Dev nD) (t : Fin cfg0.N) (p : Fin 10000) (d : Fin 128) (r : Fin 100000)
    (hr : r.val = t.val * 10000 + p.val) :
    iblk m c 0 t (ix2 p d) = m ((c : Thread nD τ).loc main_arg0) (ix2 r d) := by
  blk_ext! [iblk, V, block_index t]

/-- Element `p` of the ids' block `t` is element `10000 t + p` of the ids. -/
theorem ids_block (c : Dev nD) (t : Fin cfg0.N) (p : Fin 10000) (r : Fin 100000)
    (hr : r.val = t.val * 10000 + p.val) :
    iblk m c 1 t (ix3 0 0 p) = m ((c : Thread nD τ).loc main_arg1) (ix1 r) := by
  blk_ext! [iblk, V, block_index t]

/-- The first weight matrix is read whole (its conversion to a narrower type changes no real number). -/
theorem w1_block (c : Dev nD) (t : Fin cfg0.N) : iblk m c 2 t = m ((c : Thread nD τ).loc main_arg2) := by
  blk_ext! [iblk, V, block_index t]

/-- The second weight matrix is read whole. -/
theorem w2_block (c : Dev nD) (t : Fin cfg0.N) : iblk m c 3 t = m ((c : Thread nD τ).loc main_arg4) := by
  blk_ext! [iblk, V, block_index t]

/-- Every graph id of the launch fits in 16 signed bits. -/
def Ids16 (c : Dev nD) : Prop :=
  ∀ r : Fin 100000, -32768 ≤ (m ((c : Thread nD τ).loc main_arg1) (ix1 r)).toInt
    ∧ (m ((c : Thread nD τ).loc main_arg1) (ix1 r)).toInt < 32768

/-- A node's contribution to an output element under the launch's arguments, zero past the last node. -/
def nodeTerm (c : Dev nD) (i : S256x128.Idx) (r : ℕ) : EReal :=
  if h : r < 100000 then
    contribution (m ((c : Thread nD τ).loc main_arg0)) (m ((c : Thread nD τ).loc main_arg1)) (m ((c : Thread nD τ).loc main_arg2))
      (m ((c : Thread nD τ).loc main_arg4)) (i 0) (i 1) ⟨r, h⟩
  else 0

/-- Grid point `n` adds to the accumulator the contributions of nodes `10000 n … 10000 n + 9999`. -/
theorem point_apply (c : Dev nD) (hid : Ids16 m c) (n : ℕ) (h : n < cfg0.N) (acc : Vec Ideal S256x128 .f32)
    (i : S256x128.Idx) :
    k0_pay2 (F := Ideal) (iblk m c 0 ⟨n, h⟩) (iblk m c 2 ⟨n, h⟩) (iblk m c 3 ⟨n, h⟩) (iblk m c 1 ⟨n, h⟩) acc i
      = acc i + ∑ p ∈ Finset.range 10000, nodeTerm m c i (n * 10000 + p) := by
  have hn : n < 10 := by rw [← N_0]; exact h
  obtain ⟨g, d, rfl⟩ : ∃ (g : Fin 256) (d : Fin 128), i = ix2 g d := ⟨i 0, i 1, eq_ix2 i⟩
  rw [w1_block, w2_block]
  refine (block_apply _ _ _ _ _ g d).trans ?_
  rw [Finset.sum_range]
  refine congrArg (acc (ix2 g d) + ·) (Finset.sum_congr rfl fun p _ => ?_)
  have hp := p.isLt
  have hr : n * 10000 + p.val < 100000 := by omega
  unfold nodeTerm
  rw [dif_pos hr, ids_block m c ⟨n, h⟩ p ⟨_, hr⟩ rfl, masked_eq _ (hid _) g]
  simp only [features_block m c ⟨n, h⟩ p _ ⟨n * 10000 + p.val, hr⟩ rfl]
  rfl

/-- The kernel's output array is the pooled array of its arguments. -/
theorem kernel_array (c : Dev nD) (hid : Ids16 m c) :
    Cert.KernelIdeal.Value.G4 m c
      = pooled (m ((c : Thread nD τ).loc main_arg0)) (m ((c : Thread nD τ).loc main_arg1)) (m ((c : Thread nD τ).loc main_arg2))
          (m ((c : Thread nD τ).loc main_arg4)) := by
  funext i
  have hi0 : (i 0).val < 256 := (i 0).isLt
  have hi1 : (i 1).val < 128 := (i 1).isLt
  have hrun : Cert.KernelIdeal.Value.run4Of i = 0 := by
    unfold Cert.KernelIdeal.Value.run4Of; omega
  have hloc : Cert.KernelIdeal.Value.loc4Of i = i := by
    funext a
    apply Fin.ext
    match a with
    | ⟨0, _⟩ => exact Nat.mod_eq_of_lt hi0
    | ⟨1, _⟩ => exact Nat.mod_eq_of_lt hi1
  have hN : 10 * Cert.KernelIdeal.Value.run4Of i + 9 < cfg0.N := by
    rw [hrun, show cfg0.N = 10 from N_0]; decide
  unfold Cert.KernelIdeal.Value.G4
  rw [dif_pos hN, hloc]
  have fold := Pipeline.accAt_add_apply (Cert.KernelIdeal.Value.reset4 m c) (Cert.KernelIdeal.Value.step4 m c)
    (fun _ => (0 : EReal))
    (fun n i => ∑ p ∈ Finset.range 10000, nodeTerm m c i (n * 10000 + p)) (10 * Cert.KernelIdeal.Value.run4Of i) 9
    (fun h i => (point_apply m c hid _ h _ i).trans (by rw [cleared_apply]))
    (fun n h acc i _ _ => point_apply m c hid n h acc i) 9 le_rfl hN i
  rw [fold, zero_add, hrun]
  simp only [Nat.mul_zero, Nat.zero_add]
  refine (Finset.sum_range_range_mul_add 10 10000 (nodeTerm m c i)).trans ?_
  rw [Finset.sum_range]
  exact Finset.sum_congr rfl fun r _ => dif_pos r.isLt

end Cert.Proof

end
-- ==== Proof.ReferenceArray.lean ====
/- The reference's side: with both biases zero, the array it leaves is the pooled array. Hand-written, untrusted. -/
module

public import proofs.«01_k».proof.Proof.Pooling
public import proofs.«01_k».proof.Proof.Gen.ReferenceIdeal.Run

@[expose] public section

noncomputable section

namespace Cert.Proof

open Idealize.ShloMosaic Idealize.ShloMosaic.TcCoe Idealize.SL.Sem
open Cert.ReferenceIdeal Cert.ReferenceIdeal.Gen

/-- The scatter of 100000 rows of 128 features into 256 rows by one index word each. -/
abbrev rowScatter : ScatterDims S256x128 S100000x1 S100000x128 := scatter_S256x128_S100000x1_S100000x128_1_0_0_1

/-- The window of update `(r, f)` starts at its index word on the row axis. -/
theorem rowScatter_start0 (idx : IVec S100000x1 32) (r : Fin 100000) (f : Fin 128) :
    rowScatter.start (ix2 r f) idx 0 = (idx (ix2 r 0)).toInt := by
  unfold ScatterDims.start
  rw [dif_pos (by decide)]
  refine congrArg (fun z => (idx z).toInt) (funext fun a => Fin.ext ?_)
  match a with
  | ⟨0, _⟩ => rfl
  | ⟨1, _⟩ => rfl

/-- and at zero on the feature axis. -/
theorem rowScatter_start1 (idx : IVec S100000x1 32) (r : Fin 100000) (f : Fin 128) :
    rowScatter.start (ix2 r f) idx 1 = 0 := by
  unfold ScatterDims.start
  rw [dif_neg (by decide)]

/-- Update `(r, f)` is at offset zero of its window on the row axis. -/
theorem rowScatter_window0 (r : Fin 100000) (f : Fin 128) : rowScatter.window (ix2 r f) 0 = 0 := by
  unfold ScatterDims.window
  rw [dif_neg (by decide)]

/-- and at offset `f` on the feature axis. -/
theorem rowScatter_window1 (r : Fin 100000) (f : Fin 128) : rowScatter.window (ix2 r f) 1 = f.val := by
  unfold ScatterDims.window
  rw [dif_pos (by decide)]
  rfl

/-- Update `(r, f)` lands at `(g, d)` exactly when its index word, read signed, is `g` and its feature is `d`. -/
theorem rowScatter_lands (idx : IVec S100000x1 32) (r : Fin 100000) (f : Fin 128) (g : Fin 256) (d : Fin 128) :
    rowScatter.resultIdx? (ix2 r f) idx = some (ix2 g d) ↔ (idx (ix2 r 0)).toInt = (g.val : Int) ∧ f = d := by
  have s0 := rowScatter_start0 idx r f
  have s1 := rowScatter_start1 idx r f
  have w0 := rowScatter_window0 r f
  have w1 := rowScatter_window1 r f
  have hg := g.isLt
  have hd := d.isLt
  have hf := f.isLt
  unfold ScatterDims.resultIdx?
  split
  · next h =>
    have h0 := h 0
    rw [s0, w0] at h0
    constructor
    · intro e
      have e0 : (rowScatter.start (ix2 r f) idx 0 + (rowScatter.window (ix2 r f) 0 : Int)).toNat = g.val :=
        congrArg Fin.val (congrFun (Option.some.inj e) 0)
      have e1 : (rowScatter.start (ix2 r f) idx 1 + (rowScatter.window (ix2 r f) 1 : Int)).toNat = d.val :=
        congrArg Fin.val (congrFun (Option.some.inj e) 1)
      rw [s0, w0] at e0
      rw [s1, w1] at e1
      exact ⟨by omega, Fin.ext (by omega)⟩
    · rintro ⟨e, rfl⟩
      refine congrArg some (funext fun a => Fin.ext ?_)
      match a with
      | ⟨0, _⟩ =>
        show (rowScatter.start (ix2 r f) idx 0 + (rowScatter.window (ix2 r f) 0 : Int)).toNat = g.val
        rw [s0, w0]; omega
      | ⟨1, _⟩ =>
        show (rowScatter.start (ix2 r f) idx 1 + (rowScatter.window (ix2 r f) 1 : Int)).toNat = f.val
        rw [s1, w1]; omega
  · next h =>
    constructor
    · intro e; cases e
    · rintro ⟨e, rfl⟩
      refine (h fun a => ?_).elim
      match a with
      | ⟨0, _⟩ =>
        show 0 ≤ rowScatter.start (ix2 r f) idx 0 + (rowScatter.window (ix2 r f) 0 : Int)
          ∧ rowScatter.start (ix2 r f) idx 0 + (rowScatter.window (ix2 r f) 0 : Int) < ((256 : Nat) : Int)
        rw [s0, w0]; omega
      | ⟨1, _⟩ =>
        show 0 ≤ rowScatter.start (ix2 r f) idx 1 + (rowScatter.window (ix2 r f) 1 : Int)
          ∧ rowScatter.start (ix2 r f) idx 1 + (rowScatter.window (ix2 r f) 1 : Int) < ((128 : Nat) : Int)
        rw [s1, w1]; omega

/-- The accumulating scatter, element by element: what was there plus every row whose index word is the row's number. -/
theorem rowScatter_apply (z : FVec Ideal S256x128 .f32) (idx : IVec S100000x1 32) (upd : FVec Ideal S100000x128 .f32)
    (g : Fin 256) (d : Fin 128) :
    Host.scatterAdd rowScatter z idx upd (ix2 g d)
      = z (ix2 g d) + ∑ r : Fin 100000, if (idx (ix2 r 0)).toInt = (g.val : Int) then upd (ix2 r d) else 0 := by
  show z (ix2 g d) + ∑ j ∈ Finset.univ.filter (fun j => rowScatter.resultIdx? j idx = some (ix2 g d)), upd j = _
  refine congrArg (z (ix2 g d) + ·) ?_
  rw [Finset.sum_filter, sum_idx2]
  refine Finset.sum_congr rfl fun r _ => ?_
  simp only [rowScatter_lands]
  by_cases e : (idx (ix2 r 0)).toInt = (g.val : Int)
  · simp [e]
  · simp [e]

/-- A node's updates in the reference are its attention weight, zero biases added, times its features. -/
theorem update_apply (x : FVec Ideal S100000x128 .f32) (w1 : FVec Ideal S128x64 .f32) (b1 : FVec Ideal S64 .f32)
    (w2 : FVec Ideal S64x1 .f32) (b2 : FVec Ideal S1 .f32) (h1 : ∀ k, b1 (ix1 k) = 0) (h2 : b2 (ix1 0) = 0)
    (r : Fin 100000) (d : Fin 128) :
    (mulf x (broadcastInDim S100000x128 ![0, 1] bcast_S100000x1_S100000x128_0_1
      (addf (Host.dotGeneral dot_S100000x64_S64x1_S100000x1_1_0_0_1_n_n none
          (Host.tanh (addf (Host.dotGeneral dot_S100000x128_S128x64_S100000x64_1_0_0_1_n_n none x w1)
            (broadcastInDim S100000x64 ![0, 1] bcast_S1x64_S100000x64_0_1 (broadcastInDim S1x64 ![1] bcast_S64_S1x64_1 b1)))) w2)
        (broadcastInDim S100000x1 ![0, 1] bcast_S1x1_S100000x1_0_1 (broadcastInDim S1x1 ![1] bcast_S1_S1x1_1 b2))))
      : FVec Ideal S100000x128 .f32) (ix2 r d)
      = attention x w1 w2 r * x (ix2 r d) := by
  pointwise
  simp only [h1, h2, add_zero]
  rw [mul_comm]
  refine congrArg (· * x (ix2 r d)) (Finset.sum_congr rfl fun k _ => ?_)
  rw [mul_comm]
  exact congrArg (fun z => w2 (ix2 k 0) * Ideal.tanh z) (Finset.sum_congr rfl fun f _ => mul_comm _ _)

/-- The array the reference leaves is the pooled array of its arguments. -/
theorem reference_array (x : FVec Ideal S100000x128 .f32) (ids : IVec S100000 32) (w1 : FVec Ideal S128x64 .f32)
    (b1 : FVec Ideal S64 .f32) (w2 : FVec Ideal S64x1 .f32) (b2 : FVec Ideal S1 .f32) (h1 : ∀ k, b1 (ix1 k) = 0)
    (h2 : b2 (ix1 0) = 0) :
    Host.scatterAdd scatter_S256x128_S100000x1_S100000x128_1_0_0_1
      (broadcastInDim S256x128 ![] bcast_S_S256x128 (constant (F := Ideal) S_ .f32 0x00000000#32))
      (broadcastInDim S100000x1 ![0] bcast_S100000_S100000x1_0 ids)
      (mulf x (broadcastInDim S100000x128 ![0, 1] bcast_S100000x1_S100000x128_0_1
        (addf (Host.dotGeneral dot_S100000x64_S64x1_S100000x1_1_0_0_1_n_n none
            (Host.tanh (addf (Host.dotGeneral dot_S100000x128_S128x64_S100000x64_1_0_0_1_n_n none x w1)
              (broadcastInDim S100000x64 ![0, 1] bcast_S1x64_S100000x64_0_1 (broadcastInDim S1x64 ![1] bcast_S64_S1x64_1 b1)))) w2)
          (broadcastInDim S100000x1 ![0, 1] bcast_S1x1_S100000x1_0_1 (broadcastInDim S1x1 ![1] bcast_S1_S1x1_1 b2)))))
      = pooled x ids w1 w2 := by
  funext i
  obtain ⟨g, d, rfl⟩ : ∃ (g : Fin 256) (d : Fin 128), i = ix2 g d := ⟨i 0, i 1, eq_ix2 i⟩
  refine (rowScatter_apply _ _ _ g d).trans ?_
  have hz : (broadcastInDim S256x128 ![] bcast_S_S256x128 (constant (F := Ideal) S_ .f32 0x00000000#32) : FVec Ideal S256x128 .f32)
      (ix2 g d) = 0 := by
    pointwise
  rw [hz, zero_add]
  refine Finset.sum_congr rfl fun r _ => ?_
  have hi : broadcastInDim S100000x1 ![0] bcast_S100000_S100000x1_0 ids (ix2 r 0) = ids (ix1 r) := by
    pointwise
  rw [hi, update_apply x w1 b1 w2 b2 h1 h2]
  rfl

end Cert.Proof

end
-- ==== Proof.Precondition.lean ====
/- What the precondition says of the launch's arguments. Hand-written, untrusted. -/
module

public import proofs.«01_k».proof.Proof.Gen.Pre_pre
public import Idealize.ShloMosaic.Lib.Pointwise
public import Idealize.ShloMosaic.Lib.ReduceAll
public import Idealize.ShloMosaic.Lib.WordCmp

@[expose] public section

noncomputable section

namespace Cert.Proof

open Idealize.ShloMosaic Cert.Pre_pre Cert.Pre_pre.Gen

/-- An array of rank zero has one index. -/
instance : Subsingleton S_.Idx := ⟨fun _ _ => funext fun a => a.elim0⟩

/-- A proposition whose truth value is the bit 1 holds. -/
theorem of_bit_one {p : Prop} [Decidable p] (h : BitVec.ofBool (decide p) = 1#1) : p := by
  by_contra hp
  rw [decide_eq_false hp] at h
  exact absurd h (by decide)

/-- The precondition read back: every graph id fits in 16 signed bits, and both biases are zero. -/
theorem pre_facts (x : FVec Ideal S100000x128 .f32) (ids : IVec S100000 32) (w1 : FVec Ideal S128x64 .f32)
    (b1 : FVec Ideal S64 .f32) (w2 : FVec Ideal S64x1 .f32) (b2 : FVec Ideal S1 .f32)
    (h : Cert.Pre_pre.fn (F := Ideal) x ids w1 b1 w2 b2 = fun _ => 1#1) :
    (∀ r : Fin 100000, -32768 ≤ (ids (ix1 r)).toInt ∧ (ids (ix1 r)).toInt < 32768)
      ∧ (∀ k : Fin 64, b1 (ix1 k) = 0) ∧ b2 (ix1 0) = 0 := by
  have h0 := congrFun h (fun a => a.elim0)
  simp only [Cert.Pre_pre.fn, andi_apply, IntOp.andi_eq_one] at h0
  obtain ⟨⟨hids, hb1⟩, hb2⟩ := h0
  refine ⟨fun r => ?_, fun k => ?_, ?_⟩
  · have e := Host.reduce_andi_all _ _ _ _ _ hids (ix1 r)
    simp only [andi_apply, IntOp.andi_eq_one] at e
    obtain ⟨lo, hi⟩ := e
    pointwise at lo hi
    rw [WordCmp.cmpi_sge_eq] at lo
    rw [WordCmp.cmpi_slt_eq] at hi
    have lo := of_bit_one lo
    have hi := of_bit_one hi
    have elo : (4294934528#32).toInt = -32768 := by decide
    have ehi : (32768#32).toInt = 32768 := by decide
    rw [elo] at lo
    rw [ehi] at hi
    exact ⟨lo, hi⟩
  · have e := Host.reduce_andi_all _ _ _ _ _ hb1 (ix1 k)
    pointwise at e
    exact of_bit_one e
  · have e := Host.reduce_andi_all _ _ _ _ _ hb2 (ix1 0)
    pointwise at e
    exact of_bit_one e

end Cert.Proof

end
-- ==== Proof.lean ====
/- The proof of the claims: the three frames, the idealization and the value claim. Hand-written, untrusted.

   The value claim follows from two equations: the kernel's output array is the pooled array of its arguments
   (Proof/KernelArray.lean) and the reference's result is the pooled array of its arguments (Proof/ReferenceArray.lean),
   where the pooled array is the function written in Proof/Pooling.lean. The precondition (Proof/Precondition.lean) supplies
   16-bit graph ids to the first and zero biases to the second. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_pre
public import proofs.«01_k».proof.Proof.KernelArray
public import proofs.«01_k».proof.Proof.ReferenceArray
public import proofs.«01_k».proof.Proof.Precondition
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel terminates without fault, leaves its arguments as they were and every semaphore at zero. -/
theorem kernel_frame : Cert.quiescent_Kernel := fun m ρ _ => Cert.Kernel.Gen.frame m ρ

/-- So does the kernel over the extended reals. -/
theorem kernel_ideal_frame : Cert.quiescent_KernelIdeal := fun m ρ _ => Cert.KernelIdeal.Gen.frame m ρ

/-- So does the kernel over the extended reals under the precondition. -/
theorem kernel_ideal_frame_pre : Cert.quiescent_KernelIdeal_pre_pre := fun m ρ _ => Cert.KernelIdeal.Gen.frame m ρ

/-- The reference terminates, leaves its arguments as they were, and has no semaphore. -/
theorem reference_frame : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- So it does under the precondition, which the frame does not need. -/
theorem reference_frame_pre : Cert.quiescent_ReferenceIdeal_pre_pre := fun m ρ _ => reference_frame m ρ trivial

/-- The value claim: under the precondition the kernel's output array and the reference's result are one array, the
    pooled array of the arguments. -/
theorem algebraic : Cert.algebraic_KernelIdeal_ReferenceIdeal_pre_pre := by
  intro m g m' g' hpre hagree
  refine ⟨fun c => Cert.KernelIdeal.Value.G4 m c, Cert.KernelIdeal.Value.run m g, ?_⟩
  refine (θ_run Cert.ReferenceIdeal.defs _ _).mono (fun r h c => ⟨(h c).1.trans ?_, (h c).2⟩)
    (Cert.ReferenceIdeal.Value.run (F := Ideal) m' g')
  obtain ⟨hids, hb1, hb2⟩ := pre_facts _ _ _ _ _ _ (hpre c)
  obtain ⟨e0, e1, e2, e3, e4, e5⟩ := hagree c
  rw [e0, e1, e2, e3, e4, e5]
  refine (reference_array _ _ _ _ _ _ hb1 hb2).trans ?_
  exact (kernel_array m c hids).symm

/-- All the claims. -/
theorem claim : Cert.Claim := ⟨Cert.Kernel.Gen.facts, Cert.KernelIdeal.Gen.facts, Cert.ReferenceIdeal.Gen.facts,
  Cert.Pre_pre.Gen.facts, kernel_frame, kernel_ideal_frame, kernel_ideal_frame_pre, reference_frame, reference_frame_pre,
  trivial, algebraic⟩

end Cert.Proof

end
